-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x64x64 : Shape := ⟨4, ![8, 32, 64, 64]⟩
abbrev S1024x32 : Shape := ⟨2, ![1024, 32]⟩
abbrev S_ : Shape := ⟨0, ![]⟩

class Facts : Prop where
  bcast_S_S8x32x64x64 : S_.BroadcastsInDim S8x32x64x64 (![] : Fin 0 → Fin S8x32x64x64.rank)
  reducesTo_S8x32x64x64_S_d0_1_2_3 : S8x32x64x64.ReducesTo [0, 1, 2, 3] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S8x32x64x64 .f32) (main_arg1 : FVec F S1024x32 .f32) : IVec S_ 1 :=
  let main_v0 : FVec F S8x32x64x64 .f32 := Host.absf main_arg0
  let main_cst : FVec F S_ .f32 := constant S_ .f32 0x7F800000#32
  let main_v1 : FVec F S8x32x64x64 .f32 := broadcastInDim S8x32x64x64 ![] bcast_S_S8x32x64x64 main_cst
  let main_v2 : IVec S8x32x64x64 1 := cmpf .olt main_v0 main_v1
  let main_c : IVec S_ 1 := constantI S_ 1 1#1
  let main_v3 : IVec S_ 1 := (fun x v => Host.reduce IntOp.andi x v reducesTo_S8x32x64x64_S_d0_1_2_3 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  main_v8
-- ==== Kernel.lean ====
abbrev S8x32x64x64 : Shape := ⟨4, ![8, 32, 64, 64]⟩
abbrev S1024x32 : Shape := ⟨2, ![1024, 32]⟩
abbrev S8x32x4096 : Shape := ⟨3, ![8, 32, 4096]⟩
abbrev S_ : Shape := ⟨0, ![]⟩
abbrev S32x1024 : Shape := ⟨2, ![32, 1024]⟩
abbrev S1x1 : Shape := ⟨2, ![1, 1]⟩
abbrev S1x32x1024 : Shape := ⟨3, ![1, 32, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1 : Shape := ⟨1, ![1]⟩

abbrev nBuf : Space → Nat
  | .hbm => 13
  | .vmem => 8
  | .smem => 0
  | _ => 0

abbrev bufTy : (tb : Table) → Fin (tcTables nBuf tb) → BufTy
  | .hbm, ⟨0, _⟩ => ⟨S8x32x64x64, .f32⟩
  | .hbm, ⟨1, _⟩ => ⟨S1024x32, .f32⟩
  | .hbm, ⟨2, _⟩ => ⟨S8x32x4096, .f32⟩
  | .hbm, ⟨3, _⟩ => ⟨S_, .f32⟩
  | .hbm, ⟨4, _⟩ => ⟨S1024x32, .f32⟩
  | .hbm, ⟨5, _⟩ => ⟨S1024x32, .f32⟩
  | .hbm, ⟨6, _⟩ => ⟨S32x1024, .f32⟩
  | .hbm, ⟨7, _⟩ => ⟨S8x32x4096, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x32x64x64, .f32⟩
  | .local _ .vmem, ⟨0, _⟩ => ⟨S1x32x1024, .f32⟩
  | .local _ .vmem, ⟨1, _⟩ => ⟨S1x32x1024, .f32⟩
  | .local _ .vmem, ⟨2, _⟩ => ⟨S1024x32, .f32⟩
  | .local _ .vmem, ⟨3, _⟩ => ⟨S1024x32, .f32⟩
  | .local _ .vmem, ⟨4, _⟩ => ⟨S32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x1, .f32⟩
  | _, _ => ⟨S8x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_call0_v5 : Ref sig .tc := ⟨.hbm, 9, rfl⟩
abbrev main_call0_cst_0 : Ref sig .tc := ⟨.hbm, 10, rfl⟩
abbrev main_v0_1 : Ref sig .tc := ⟨.hbm, 11, rfl⟩
abbrev main_v0_0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S8x32x64x64 : Shape := ⟨4, ![8, 32, 64, 64]⟩
abbrev S1024x32 : Shape := ⟨2, ![1024, 32]⟩
abbrev S8x32x4096 : Shape := ⟨3, ![8, 32, 4096]⟩
abbrev S8x4096x32 : Shape := ⟨3, ![8, 4096, 32]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S8x4096x1024 : Shape := ⟨3, ![8, 4096, 1024]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S8x32x64x64, .f32⟩
  | .hbm, ⟨1, _⟩ => ⟨S1024x32, .f32⟩
  | .hbm, ⟨2, _⟩ => ⟨S8x32x4096, .f32⟩
  | .hbm, ⟨3, _⟩ => ⟨S8x4096x32, .f32⟩
  | .hbm, ⟨4, _⟩ => ⟨S8x4096x32, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S1024x32, .f32⟩
  | .hbm, ⟨9, _⟩ => ⟨S_, .f32⟩
  | .hbm, ⟨10, _⟩ => ⟨S1024, .f32⟩
  | .hbm, ⟨11, _⟩ => ⟨S1x1x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .i32⟩
  | .hbm, ⟨25, _⟩ => ⟨S_, .f32⟩
  | .hbm, ⟨26, _⟩ => ⟨S_, .i32⟩
  | .hbm, ⟨27, _⟩ => ⟨S8x4096, .f32⟩
  | .hbm, ⟨28, _⟩ => ⟨S8x4096, .i32⟩
  | .hbm, ⟨29, _⟩ => ⟨S_, .i32⟩
  | .hbm, ⟨30, _⟩ => ⟨S8x4096, .i32⟩
  | .hbm, ⟨31, _⟩ => ⟨S8x4096, .i1⟩
  | .hbm, ⟨32, _⟩ => ⟨S_, .i32⟩
  | .hbm, ⟨33, _⟩ => ⟨S8x4096, .i32⟩
  | .hbm, ⟨34, _⟩ => ⟨S8x4096, .i32⟩
  | .hbm, ⟨35, _⟩ => ⟨S8x4096, .i32⟩
  | .hbm, ⟨36, _⟩ => ⟨S8x4096x1, .i32⟩
  | .hbm, ⟨37, _⟩ => ⟨S1, .i32⟩
  | .hbm, ⟨38, _⟩ => ⟨S_, .i32⟩
  | .hbm, ⟨39, _⟩ => ⟨S8x4096x1, .i32⟩
  | .hbm, ⟨40, _⟩ => ⟨S8x4096x1, .i1⟩
  | .hbm, ⟨41, _⟩ => ⟨S1x1x1, .i32⟩
  | .hbm, ⟨42, _⟩ => ⟨S8x4096x1, .i32⟩
  | .hbm, ⟨43, _⟩ => ⟨S8x4096x1, .i1⟩
  | .hbm, ⟨44, _⟩ => ⟨S8x4096x1, .i1⟩
  | .hbm, ⟨45, _⟩ => ⟨S_, .i1⟩
  | .hbm, ⟨46, _⟩ => ⟨S8x4096, .i1⟩
  | .hbm, ⟨47, _⟩ => ⟨S8x4096x32, .f32⟩
  | .hbm, ⟨48, _⟩ => ⟨S8x4096x32, .i1⟩
  | .hbm, ⟨49, _⟩ => ⟨S_, .f32⟩
  | .hbm, ⟨50, _⟩ => ⟨S8x4096x32, .f32⟩
  | .hbm, ⟨51, _⟩ => ⟨S8x4096x32, .f32⟩
  | .hbm, ⟨52, _⟩ => ⟨S8x32x4096, .f32⟩
  | .hbm, ⟨53, _⟩ => ⟨S8x32x64x64, .f32⟩
  | .hbm, ⟨54, _⟩ => ⟨S8x32x64x64, .f32⟩
  | .hbm, ⟨55, _⟩ => ⟨S8x32x64x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8x32x64x64, .f32⟩
  | .hbm, ⟨61, _⟩ => ⟨S8x32x64x64, .f32⟩
  | _, _ => ⟨S8x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]
-- ==== Proof.Block.lean ====
/-
  What the kernel's body leaves in its two output blocks at one grid point, as the printed payloads of the point's
  input blocks: the picked codes of the block's columns, and the running sum of the squared nearest distances.
-/
module

public import proofs.«01_k».proof.Proof.Gen.KernelIdeal.Frame
public import Idealize.ShloMosaic.Lib.Pipeline.ValueKit

@[expose] public section

set_option maxRecDepth 16384

noncomputable section

namespace Cert.Proof.K

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- At every point the block of picked codes is `k0_pay6` of the point's blocks, with a leading axis of size one. -/
theorem picked_block (c : Dev nD) (t : Fin cfg0.N) :
    (outsAt0 m c t.val t.isLt).1 = k0_pay1 (k0_pay6 (iblk m c 0 t) (iblk m c 1 t) (iblk m c 2 t) (iblk m c 3 t)) := by
  by_cases h0 : t.val % 32 = 0
  · rw [outsAt0_A m c t h0]
    dsimp only
    frame_out
  · rw [outsAt0_B m c t h0]
    dsimp only
    frame_out

/-- At the first point the running sum is zero plus the point's sum. -/
theorem sum_block_first (c : Dev nD) (t : Fin cfg0.N) (h0 : t.val % 32 = 0) :
    (outsAt0 m c t.val t.isLt).2 = k0_pay3 (k0_pay5 (iblk m c 0 t) (iblk m c 1 t) (iblk m c 2 t)) k0_pay2 := by
  rw [outsAt0_A m c t h0]
  dsimp only
  frame_out

/-- At a later point it is what the point before left plus the point's sum. -/
theorem sum_block_later (c : Dev nD) (t : Fin cfg0.N) (h0 : ¬t.val % 32 = 0) :
    (outsAt0 m c t.val t.isLt).2
      = k0_pay3 (k0_pay5 (iblk m c 0 t) (iblk m c 1 t) (iblk m c 2 t))
          (outsAt0 m c (t.val - 1) (Nat.lt_of_le_of_lt (Nat.sub_le _ _) t.isLt)).2 := by
  rw [outsAt0_B m c t h0]
  dsimp only
  frame_out

end Cert.Proof.K

end
-- ==== Proof.Nearest.lean ====
/-
  The mathematics of the quantiser over the reals: the squared distances of one row of the image to the codes, the
  nearest code (the first where several are), and the readings of it that the kernel and the reference use.
-/
module

public import Idealize.ShloMosaic.PureOps.Ideal

@[expose] public section

noncomputable section

namespace Cert.Proof.Vq

open Idealize.ShloMosaic

/-- The squared distance of the row `z` to code `k` of the codebook `w`. -/
def sq (w : Fin 1024 → Fin 32 → ℝ) (z : Fin 32 → ℝ) (k : Fin 1024) : ℝ := ∑ c, (w k c - z c) ^ 2

/-- A squared distance is not negative. -/
theorem sq_nonneg (w : Fin 1024 → Fin 32 → ℝ) (z : Fin 32 → ℝ) (k : Fin 1024) : 0 ≤ sq w z k :=
  Finset.sum_nonneg fun _ _ => pow_two_nonneg _

/-- `k` is the first of the least of `d`. -/
def IsFirst (d : Fin 1024 → ℝ) (k : Fin 1024) : Prop := (∀ j, d k ≤ d j) ∧ ∀ j, j < k → d k < d j

/-- There is a first least. -/
theorem exists_isFirst (d : Fin 1024 → ℝ) : ∃ k, IsFirst d k := by
  obtain ⟨a, ha⟩ := Finite.exists_min d
  obtain ⟨k, hk, hmin⟩ := (Finset.univ.filter fun k => d k = d a).exists_min_image id ⟨a, by simp⟩
  have hk' : d k = d a := (Finset.mem_filter.mp hk).2
  refine ⟨k, fun j => hk' ▸ ha j, fun j hj => ?_⟩
  rcases lt_or_eq_of_le (ha j) with h | h
  · rw [hk']; exact h
  · have := hmin j (Finset.mem_filter.mpr ⟨Finset.mem_univ _, h.symm⟩)
    exact absurd hj (not_lt.mpr this)

/-- The first least. -/
def first (d : Fin 1024 → ℝ) : Fin 1024 := (exists_isFirst d).choose

theorem first_spec (d : Fin 1024 → ℝ) : IsFirst d (first d) := (exists_isFirst d).choose_spec

/-- Whatever is below every other in value, or equal and not later, is the first least. -/
theorem eq_first (d : Fin 1024 → ℝ) (k : Fin 1024) (h : ∀ j, d k < d j ∨ d k = d j ∧ k ≤ j) : k = first d := by
  obtain ⟨h1, h2⟩ := first_spec d
  rcases h (first d) with h' | ⟨h', h''⟩
  · exact absurd (h1 k) (not_le.mpr h')
  · rcases lt_or_eq_of_le h'' with hlt | he
    · exact absurd (h2 k hlt) (not_lt.mpr h'.le)
    · exact he

/-! ## Extended reals -/

/-- A finite sum of reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square root of a real that is not negative is the real square root. -/
theorem sqrt_coe (r : ℝ) (h : 0 ≤ r) : Ideal.sqrt (r : EReal) = (Real.sqrt r : EReal) := by
  show (if r < 0 then ⊥ else (Real.sqrt r : EReal)) = _
  rw [if_neg (not_lt.mpr h)]

/-- The kernel's squared distance: `(|w|² + |z|²) - (2w)·z`. -/
theorem kernel_sq (w : Fin 1024 → Fin 32 → ℝ) (z : Fin 32 → ℝ) (k : Fin 1024) :
    ((∑ c, (w k c : EReal) * (w k c : EReal)) + ∑ c, (z c : EReal) * (z c : EReal))
      - (∑ c, (2 * (w k c : EReal)) * (z c : EReal)) = (sq w z k : EReal) := by
  have h2 : (2 : EReal) = ((2 : ℝ) : EReal) := rfl
  simp only [h2, ← EReal.coe_mul, ← coe_sum, ← EReal.coe_add, ← EReal.coe_sub]
  congr 1
  rw [sq, ← Finset.sum_add_distrib, ← Finset.sum_sub_distrib]
  exact Finset.sum_congr rfl fun c _ => by ring

/-- The reference's squared distance: `(|z|² + |w|²) - 2 (z·w)`, cut below at zero, which changes nothing. -/
theorem reference_sq (w : Fin 1024 → Fin 32 → ℝ) (z : Fin 32 → ℝ) (k : Fin 1024) :
    max (((∑ c, (z c : EReal) * (z c : EReal)) + ∑ c, (w k c : EReal) * (w k c : EReal))
      - 2 * ∑ c, (z c : EReal) * (w k c : EReal)) 0 = (sq w z k : EReal) := by
  have h2 : (2 : EReal) = ((2 : ℝ) : EReal) := rfl
  have h : (((∑ c, (z c : EReal) * (z c : EReal)) + ∑ c, (w k c : EReal) * (w k c : EReal))
      - 2 * ∑ c, (z c : EReal) * (w k c : EReal)) = (sq w z k : EReal) := by
    simp only [h2, ← EReal.coe_mul, ← coe_sum, ← EReal.coe_add, ← EReal.coe_sub]
    congr 1
    rw [sq, Finset.mul_sum, ← Finset.sum_add_distrib, ← Finset.sum_sub_distrib]
    exact Finset.sum_congr rfl fun c _ => by ring
  rw [h]
  exact max_eq_left (EReal.coe_nonneg.mpr (sq_nonneg w z k))

/-- A fold of the minimum from the top is whatever is among the values and below every value. -/
theorem fold_min_eq {ι : Type} [Fintype ι] (f : ι → EReal) (i : ι) (h : ∀ j, f i ≤ f j) :
    Finset.univ.fold min ⊤ f = f i := by
  apply le_antisymm
  · exact (Finset.fold_min_le _).mpr (Or.inr ⟨i, Finset.mem_univ _, le_rfl⟩)
  · exact (Finset.le_fold_min _).mpr ⟨le_top, fun j _ => h j⟩

/-- The distance to code `k`. -/
def root (w : Fin 1024 → Fin 32 → ℝ) (z : Fin 32 → ℝ) (k : Fin 1024) : ℝ := Real.sqrt (sq w z k)

/-- The nearest code of the row `z`: the first of those at the least distance. -/
def near (w : Fin 1024 → Fin 32 → ℝ) (z : Fin 32 → ℝ) : Fin 1024 := first (root w z)

/-- The square of a distance is the squared distance. -/
theorem root_mul_root (w : Fin 1024 → Fin 32 → ℝ) (z : Fin 32 → ℝ) (k : Fin 1024) : root w z k * root w z k = sq w z k :=
  Real.mul_self_sqrt (sq_nonneg w z k)

/-- The least distance. -/
theorem fold_min_root (w : Fin 1024 → Fin 32 → ℝ) (z : Fin 32 → ℝ) :
    Finset.univ.fold min ⊤ (fun k => (root w z k : EReal)) = (root w z (near w z) : EReal) :=
  fold_min_eq (fun k => (root w z k : EReal)) (near w z) fun j => EReal.coe_le_coe_iff.mpr ((first_spec (root w z)).1 j)

/-- The kernel's index code of `k` among values `d`: `k` where `d k` is the value `d n`, else 1024. -/
def code (d : Fin 1024 → ℝ) (n k : Fin 1024) : EReal := if (d k : EReal) = (d n : EReal) then ((k.val : ℝ) : EReal) else ((1024 : ℝ) : EReal)

/-- The least index code is the first least. -/
theorem fold_min_code (d : Fin 1024 → ℝ) : Finset.univ.fold min ⊤ (code d (first d)) = (((first d).val : ℝ) : EReal) := by
  obtain ⟨h1, h2⟩ := first_spec d
  have hn : code d (first d) (first d) = (((first d).val : ℝ) : EReal) := if_pos rfl
  rw [← hn]
  refine fold_min_eq _ (first d) fun j => ?_
  rw [hn]
  unfold code
  split
  · next h =>
    rw [EReal.coe_le_coe_iff, Nat.cast_le]
    by_contra hlt
    exact absurd (EReal.coe_eq_coe_iff.mp h) (h2 j (Fin.lt_def.mpr (not_le.mp hlt))).ne'
  · rw [EReal.coe_le_coe_iff]
    exact_mod_cast (first d).isLt.le

/-- The index code is the least one at the first least alone. -/
theorem code_eq_iff (d : Fin 1024 → ℝ) (k : Fin 1024) : code d (first d) k = (((first d).val : ℝ) : EReal) ↔ k = first d := by
  constructor
  · intro h
    unfold code at h
    split at h
    · exact Fin.ext (by exact_mod_cast EReal.coe_eq_coe_iff.mp h)
    · have h' := EReal.coe_eq_coe_iff.mp h
      have : (1024 : ℕ) = (first d).val := by exact_mod_cast h'
      exact absurd (first d).isLt (by omega)
  · rintro rfl
    exact if_pos rfl

/-- A sum of products with the indicator of `n` is the factor at `n`. -/
theorem sum_mul_indicator (g : Fin 1024 → EReal) (n : Fin 1024) : ∑ k, g k * (if k = n then 1 else 0) = g n := by
  rw [Finset.sum_eq_single n]
  · rw [if_pos rfl, mul_one]
  · intro k _ hk; rw [if_neg hk, mul_zero]
  · intro h; exact absurd (Finset.mem_univ n) h

/-! ## The reference's reduction: a left fold that keeps the smaller value, the earlier index where they are equal -/

/-- One step of such a fold over reals with their positions. -/
def Keeps {β : Type} (f : EReal × β → EReal × β → EReal × β) (ix : Fin 1024 → β) (d : Fin 1024 → ℝ) : Prop :=
  ∀ a b : Fin 1024, f ((d a : EReal), ix a) ((d b : EReal), ix b)
    = if d a < d b ∨ d a = d b ∧ a < b then ((d a : EReal), ix a) else ((d b : EReal), ix b)

/-- The fold over a list of positions, from one of them, ends at a position at which the value is least and none of
    those of equal value is earlier. -/
theorem foldl_keeps {β : Type} (f : EReal × β → EReal × β → EReal × β) (ix : Fin 1024 → β) (d : Fin 1024 → ℝ) (hf : Keeps f ix d)
    (L : List (Fin 1024)) (a : Fin 1024) :
    ∃ k, (L.map fun i => ((d i : EReal), ix i)).foldl f ((d a : EReal), ix a) = ((d k : EReal), ix k)
      ∧ (∀ j ∈ L, d k < d j ∨ d k = d j ∧ k ≤ j) ∧ (d k < d a ∨ d k = d a ∧ k ≤ a) := by
  induction L generalizing a with
  | nil => exact ⟨a, rfl, fun j hj => absurd hj List.not_mem_nil, Or.inr ⟨rfl, le_rfl⟩⟩
  | cons b L ih =>
    rw [List.map_cons, List.foldl_cons, hf a b]
    split
    · next h =>
      obtain ⟨k, hk, hL, ha⟩ := ih a
      refine ⟨k, hk, fun j hj => ?_, ha⟩
      rcases List.mem_cons.mp hj with rfl | hj
      · rcases ha with ha | ⟨ha, ha'⟩ <;> rcases h with h | ⟨h, h'⟩
        · exact Or.inl (ha.trans h)
        · exact Or.inl (ha.trans_eq h)
        · exact Or.inl (ha.trans_lt h)
        · exact Or.inr ⟨ha.trans h, ha'.trans h'.le⟩
      · exact hL j hj
    · next h =>
      obtain ⟨k, hk, hL, hb⟩ := ih b
      refine ⟨k, hk, fun j hj => ?_, ?_⟩
      · rcases List.mem_cons.mp hj with rfl | hj
        · exact hb
        · exact hL j hj
      · have hba : d b < d a ∨ d b = d a ∧ b ≤ a := by
          rcases lt_trichotomy (d b) (d a) with h' | h' | h'
          · exact Or.inl h'
          · exact Or.inr ⟨h', not_lt.mp fun hab => h (Or.inr ⟨h'.symm, hab⟩)⟩
          · exact absurd (Or.inl h') h
        rcases hb with hb | ⟨hb, hb'⟩ <;> rcases hba with h' | ⟨h', h''⟩
        · exact Or.inl (hb.trans h')
        · exact Or.inl (hb.trans_eq h')
        · exact Or.inl (hb.trans_lt h')
        · exact Or.inr ⟨hb.trans h', hb'.trans h''⟩

/-- So over a list that holds every position, from an initial pair that the first element replaces, it ends at the
    first least. -/
theorem foldl_first {β : Type} (f : EReal × β → EReal × β → EReal × β) (ix : Fin 1024 → β) (d : Fin 1024 → ℝ) (hf : Keeps f ix d)
    (init : EReal × β) (hinit : ∀ b, f init ((d b : EReal), ix b) = ((d b : EReal), ix b))
    (L : List (Fin 1024)) (hL : ∀ k, k ∈ L) :
    (L.map fun i => ((d i : EReal), ix i)).foldl f init = ((d (first d) : EReal), ix (first d)) := by
  cases L with
  | nil => exact absurd (hL 0) List.not_mem_nil
  | cons a L =>
    rw [List.map_cons, List.foldl_cons, hinit]
    obtain ⟨k, hk, hL', ha⟩ := foldl_keeps f ix d hf L a
    have : k = first d := eq_first d k fun j => by
      rcases List.mem_cons.mp (hL j) with rfl | hj
      · exact ha
      · exact hL' j hj
    rw [hk, this]

/-- The straight-through output of finite values is the quantised value. -/
theorem through_coe (a b : ℝ) : (a : EReal) + ((b : EReal) - (a : EReal)) = (b : EReal) := by
  rw [← EReal.coe_sub, ← EReal.coe_add]; congr 1; ring

/-- The squared difference of two reals, as extended reals. -/
theorem diff_mul_diff (a b : ℝ) : ((a : EReal) - (b : EReal)) * ((a : EReal) - (b : EReal)) = (((a - b) ^ 2 : ℝ) : EReal) := by
  rw [← EReal.coe_sub, ← EReal.coe_mul]; congr 1; ring

end Cert.Proof.Vq

end
-- ==== Proof.Consts.lean ====
/-
  The float literals of the two programs as extended reals.
-/
module

public import Idealize.ShloMosaic.PureOps.Ideal

@[expose] public section

noncomputable section

namespace Cert.Proof.Vq

open Idealize.ShloMosaic

/-- The literal 2.0. -/
theorem two_f32 : Ideal.ofBits .f32 0x40000000#32 = ((2 : ℝ) : EReal) := by
  simp [Ideal.ofBits, Ideal.ieee, -EReal.coe_mul]; norm_num

/-- The literal 1.0. -/
theorem one_f32 : Ideal.ofBits .f32 0x3F800000#32 = ((1 : ℝ) : EReal) := by
  simp [Ideal.ofBits, Ideal.ieee, -EReal.coe_mul]; norm_num

/-- The literal 1024.0. -/
theorem codes_f32 : Ideal.ofBits .f32 0x44800000#32 = ((1024 : ℝ) : EReal) := by
  simp [Ideal.ofBits, Ideal.ieee, -EReal.coe_mul]; norm_num

/-- The literal infinity. -/
theorem inf_f32 : Ideal.ofBits .f32 0x7F800000#32 = (⊤ : EReal) := by
  simp [Ideal.ofBits, Ideal.ieee, -EReal.coe_mul]

end Cert.Proof.Vq

end
-- ==== Proof.Payload.lean ====
/-
  The kernel's payloads read at an index: on blocks of finite values, the distances, the least of them, and the code
  that the one-hot product picks.
-/
module

public import proofs.«01_k».proof.Proof.Gen.KernelIdeal.Skeleton
public import proofs.«01_k».proof.Proof.Nearest
public import proofs.«01_k».proof.Proof.Consts
public import Idealize.ShloMosaic.Lib.Pointwise

@[expose] public section

set_option maxRecDepth 16384

noncomputable section

namespace Cert.Proof.K

open Idealize.ShloMosaic
open Cert.KernelIdeal Cert.KernelIdeal.Gen Cert.Proof.Vq

/-- A distance: the square root of the two squared lengths less the product. -/
theorem pay4_apply (v0 : FVec Ideal S1x32x1024 .f32) (v5 v6 : FVec Ideal S1024x32 .f32) (k l : Fin 1024) :
    k0_pay4 (F := Ideal) v0 v5 v6 (ix2 k l)
      = Ideal.sqrt (((∑ c : Fin 32, v5 (ix2 k c) * v5 (ix2 k c)) + ∑ c : Fin 32, v0 (ix3 0 c l) * v0 (ix3 0 c l))
          - ∑ c : Fin 32, v6 (ix2 k c) * v0 (ix3 0 c l)) := by
  pointwise [k0_pay4]

/-- The least distance of a column. -/
theorem pay5_apply (v0 : FVec Ideal S1x32x1024 .f32) (v5 v6 : FVec Ideal S1024x32 .f32) (l : Fin 1024) :
    k0_pay5 (F := Ideal) v0 v5 v6 (ix2 0 l)
      = Finset.univ.fold min ⊤ fun k : Fin 1024 => k0_pay4 (F := Ideal) v0 v5 v6 (ix2 k l) := by
  pointwise [k0_pay5]
  rw [inf_f32]

/-- The running sum: what it was plus the sum of the squares of the least distances. -/
theorem pay3_apply (v18 : FVec Ideal S1x1024 .f32) (v43 : FVec Ideal S1x1 .f32) (j : S1x1.Idx) :
    k0_pay3 (F := Ideal) v18 v43 j = v43 j + ∑ l : Fin 1024, v18 (ix2 0 l) * v18 (ix2 0 l) := by
  pointwise [k0_pay3]

/-- The block of picked codes with its leading axis of size one. -/
theorem pay1_apply (v : FVec Ideal S32x1024 .f32) (a : Fin 1) (c : Fin 32) (l : Fin 1024) :
    k0_pay1 (F := Ideal) v (ix3 a c l) = v (ix2 c l) := by
  pointwise [k0_pay1]

/-- The running sum starts from zero. -/
theorem pay2_apply (j : S1x1.Idx) : k0_pay2 (F := Ideal) j = 0 := by
  pointwise [k0_pay2]

/-- A code's index as a float is the index. -/
theorem sitofp_ofNat (k : Fin 1024) :
    (FloatOps.sitofp .f32 (BitVec.ofNat 32 k.val) : Ideal .f32) = (((k.val : ℝ)) : EReal) := by
  show (((BitVec.ofNat 32 k.val).toInt : ℝ) : EReal) = _
  have h : (BitVec.ofNat 32 k.val).toInt = (k.val : Int) := by
    have := k.isLt
    rw [BitVec.toInt_eq_toNat_of_lt] <;> rw [BitVec.toNat_ofNat] <;> omega
  rw [h, Int.cast_natCast]

/-! ## On finite blocks: `z` the block's columns, `w` the codes -/

section Finite
variable (v0 : FVec Ideal S1x32x1024 .f32) (v5 v6 : FVec Ideal S1024x32 .f32) (v32 : FVec Ideal S32x1024 .f32)
  (z : Fin 1024 → Fin 32 → ℝ) (w : Fin 1024 → Fin 32 → ℝ)
  (h0 : ∀ c l, v0 (ix3 0 c l) = (z l c : EReal)) (h5 : ∀ k c, v5 (ix2 k c) = (w k c : EReal))
  (h6 : ∀ k c, v6 (ix2 k c) = 2 * (w k c : EReal)) (h32 : ∀ c k, v32 (ix2 c k) = (w k c : EReal))
include h0 h5 h6

/-- The distances are the distances. -/
theorem pay4_finite (k l : Fin 1024) : k0_pay4 (F := Ideal) v0 v5 v6 (ix2 k l) = (root w (z l) k : EReal) := by
  rw [pay4_apply]
  simp only [h0, h5, h6]
  rw [kernel_sq, sqrt_coe _ (sq_nonneg _ _ _)]
  rfl

/-- The least is the distance to the nearest code. -/
theorem pay5_finite (l : Fin 1024) :
    k0_pay5 (F := Ideal) v0 v5 v6 (ix2 0 l) = (root w (z l) (near w (z l)) : EReal) := by
  rw [pay5_apply]
  simp only [pay4_finite v0 v5 v6 z w h0 h5 h6]
  exact fold_min_root w (z l)

include h32 in
/-- The one-hot product picks the nearest code. -/
theorem pay6_finite (c : Fin 32) (l : Fin 1024) :
    k0_pay6 (F := Ideal) v0 v5 v6 v32 (ix2 c l) = (w (near w (z l)) c : EReal) := by
  pointwise [k0_pay6]
  simp only [sitofp_ofNat, codes_f32, inf_f32, pay4_finite v0 v5 v6 z w h0 h5 h6, pay5_finite v0 v5 v6 z w h0 h5 h6, h32]
  have hc : ∀ k, (if (root w (z l) k : EReal) = (root w (z l) (near w (z l)) : EReal) then ((k.val : ℝ) : EReal)
      else ((1024 : ℝ) : EReal)) = code (root w (z l)) (first (root w (z l))) k := fun k => rfl
  simp only [hc, fold_min_code, code_eq_iff]
  exact sum_mul_indicator (fun k => (w k c : EReal)) (near w (z l))

/-- A point's sum: the squared distances of its columns to their nearest codes. -/
theorem pay3_finite (v43 : FVec Ideal S1x1 .f32) (j : S1x1.Idx) :
    k0_pay3 (F := Ideal) (k0_pay5 (F := Ideal) v0 v5 v6) v43 j
      = v43 j + ∑ l : Fin 1024, (sq w (z l) (near w (z l)) : EReal) := by
  rw [pay3_apply]
  simp only [pay5_finite v0 v5 v6 z w h0 h5 h6, ← EReal.coe_mul, root_mul_root]

end Finite

end Cert.Proof.K

end
-- ==== Proof.Spec.lean ====
/-
  The two results as the problem states them, over the reals that the two arguments hold: each position of the image
  gets its nearest code, and the loss is the mean of the squared distances to it.
-/
module

public import proofs.«01_k».proof.Proof.Nearest
public import Idealize.ShloMosaic.Lib.Pointwise

@[expose] public section

noncomputable section

namespace Cert.Proof.Vq

open Idealize.ShloMosaic

/-- Images and codebooks. -/
abbrev Img : Shape := ⟨4, ![8, 32, 64, 64]⟩
abbrev Book : Shape := ⟨2, ![1024, 32]⟩

/-- Every element is a real number. -/
def Finite {s : Shape} (x : s.Idx → EReal) : Prop := ∀ i, x i = ((x i).toReal : EReal)

/-- The channels of the image at position `n = 64 h + w` of picture `b`. -/
def row (x : Img.Idx → EReal) (b : Fin 8) (n : Fin 4096) (c : Fin 32) : ℝ :=
  (x (ix4 b c ⟨n.val / 64, by omega⟩ ⟨n.val % 64, by omega⟩)).toReal

/-- The codes. -/
def codes (w : Book.Idx → EReal) (k : Fin 1024) (c : Fin 32) : ℝ := (w (ix2 k c)).toReal

/-- Channel `c` of the nearest code of position `n` of picture `b`. -/
def pick (x : Img.Idx → EReal) (w : Book.Idx → EReal) (b : Fin 8) (c : Fin 32) (n : Fin 4096) : ℝ :=
  codes w (near (codes w) (row x b n)) c

/-- The squared distance of that position to its nearest code. -/
def gap (x : Img.Idx → EReal) (w : Book.Idx → EReal) (b : Fin 8) (n : Fin 4096) : ℝ :=
  sq (codes w) (row x b n) (near (codes w) (row x b n))

/-- The quantised image. -/
def quantised (x : Img.Idx → EReal) (w : Book.Idx → EReal) : Img.Idx → EReal := fun i =>
  ((pick x w (i 0) (i 1) ⟨64 * (i 2).val + (i 3).val, by have := (i 2).isLt; have := (i 3).isLt; simp at *; omega⟩ : ℝ) : EReal)

/-- The loss: the sum of the squared distances over every position, by the number of the image's elements. -/
def loss (x : Img.Idx → EReal) (w : Book.Idx → EReal) : EReal :=
  Ideal.div (∑ b : Fin 8, ∑ n : Fin 4096, (gap x w b n : EReal)) (Ideal.ofBits .f32 0x49800000#32)

end Cert.Proof.Vq

end
-- ==== Proof.Arrays.lean ====
/-
  What the kernel's two result arrays hold.
-/
module

public import proofs.«01_k».proof.Proof.Block
public import proofs.«01_k».proof.Proof.Payload
public import proofs.«01_k».proof.Proof.Spec
public import Idealize.ShloMosaic.Lib.Claim
public import Idealize.ShloMosaic.Lib.StableHlo.RunRead

@[expose] public section

set_option maxRecDepth 16384

noncomputable section

namespace Cert.Proof.K

open Idealize.ShloMosaic Idealize.ShloMosaic.TcCoe Idealize.SL.Sem
open Cert.KernelIdeal Cert.KernelIdeal.Gen Cert.Proof.Vq

variable (m : (ℓ : Loc nD τ sig) → Buf (Elt Ideal) ℓ)

/-- The image and the codebook as the launch finds them. -/
abbrev img (c : Dev nD) : FVec Ideal S8x32x64x64 .f32 := m ((c : Thread nD τ).loc main_arg0)
abbrev book (c : Dev nD) : FVec Ideal S1024x32 .f32 := m ((c : Thread nD τ).loc main_arg1)

/-- Every window's block index at every point (decided). -/
theorem idx : ∀ t : Fin cfg0.N, win0_0.index t = ![t.val / 4, 0, t.val % 4] ∧ win0_1.index t = ![0, 0]
    ∧ win0_2.index t = ![0, 0] ∧ win0_3.index t = ![0, 0] ∧ win0_4.index t = ![t.val / 4, 0, t.val % 4]
    ∧ win0_5.index t = ![0, 0] :=
  (by decide +kernel : ∀ t : Fin grid0.N, _)

/-- The picture that a point works on, and the position of its column `l`. -/
def pic (t : Fin cfg0.N) : Fin 8 := ⟨t.val / 4, by have := lt_of_lt_of_eq t.isLt N_0; omega⟩
def pos (t : Fin cfg0.N) (l : Fin 1024) : Fin 4096 := ⟨1024 * (t.val % 4) + l.val, by omega⟩

/-- What the host's first lines leave for the kernel to read: the image with each picture's positions in a line. -/
theorem V_image (c : Dev nD) : V m c main_call0_v0
    = shapeCast S8x32x4096 (img m c) shapeCasts_S8x32x64x64_S8x32x4096 := by
  unfold V V0
  after_reads_simp
  rfl

/-- A point's block of the image, read at channel `a` and column `l`. -/
theorem iblk0_apply (c : Dev nD) (t : Fin cfg0.N) (a : Fin 32) (l : Fin 1024) :
    iblk m c 0 t (ix3 0 a l)
      = img m c (ix4 (pic t) a ⟨(pos t l).val / 64, by omega⟩ ⟨(pos t l).val % 64, by omega⟩) := by
  have e : iblk m c 0 t (ix3 0 a l) = V m c main_call0_v0 (ix3 (pic t) a (pos t l)) := by
    blk_ext [iblk, idx t, pic, pos]
  rw [e, V_image]
  pointwise

/-- The block of the codebook is the codebook. -/
theorem iblk1_apply (c : Dev nD) (t : Fin cfg0.N) (k : Fin 1024) (a : Fin 32) :
    iblk m c 1 t (ix2 k a) = book m c (ix2 k a) := by
  blk_ext! [iblk, V, idx t]

/-- The doubled codebook. -/
theorem V_doubled (c : Dev nD) : V m c main_call0_v2
    = mulf (F := Ideal) (broadcastInDim S1024x32 ![] bcast_S_S1024x32 (constant S_ .f32 0x40000000#32)) (book m c) := by
  unfold V V0
  after_reads_simp
  rfl

/-- The transposed codebook. -/
theorem V_transposed (c : Dev nD) : V m c main_call0_v3
    = transpose S32x1024 [1, 0] (book m c) transposes_S1024x32_S32x1024_1_0 := by
  unfold V V0
  after_reads_simp
  rfl

/-- The block of the doubled codebook is twice the codebook. -/
theorem iblk2_apply (c : Dev nD) (t : Fin cfg0.N) (k : Fin 1024) (a : Fin 32) :
    iblk m c 2 t (ix2 k a) = 2 * book m c (ix2 k a) := by
  have e : iblk m c 2 t (ix2 k a) = V m c main_call0_v2 (ix2 k a) := by blk_ext [iblk, idx t]
  rw [e, V_doubled]
  pointwise
  rw [two_f32]
  rfl

/-- The block of the transposed codebook is the codebook with its axes swapped. -/
theorem iblk3_apply (c : Dev nD) (t : Fin cfg0.N) (k : Fin 1024) (a : Fin 32) :
    iblk m c 3 t (ix2 a k) = book m c (ix2 k a) := by
  have e : iblk m c 3 t (ix2 a k) = V m c main_call0_v3 (ix2 a k) := by blk_ext [iblk, idx t]
  rw [e, V_transposed]
  pointwise

/-- The last point. -/
def lastT : Fin cfg0.N := ⟨31, lt_of_lt_of_eq (by decide) N_0.symm⟩

/-! ## On finite arguments -/

section Finite
variable (c : Dev nD) (hx : Finite (img m c)) (hw : Finite (book m c))

/-- The columns of a point's block are rows of the image. -/
abbrev cols (c : Dev nD) (t : Fin cfg0.N) (l : Fin 1024) : Fin 32 → ℝ := row (img m c) (pic t) (pos t l)

include hx in
theorem block_image (t : Fin cfg0.N) (a : Fin 32) (l : Fin 1024) :
    iblk m c 0 t (ix3 0 a l) = (cols m c t l a : EReal) := by
  rw [iblk0_apply]
  exact hx _

include hw in
theorem block_codes (t : Fin cfg0.N) (k : Fin 1024) (a : Fin 32) :
    iblk m c 1 t (ix2 k a) = (codes (book m c) k a : EReal) := by
  rw [iblk1_apply]
  exact hw _

include hw in
theorem block_doubled (t : Fin cfg0.N) (k : Fin 1024) (a : Fin 32) :
    iblk m c 2 t (ix2 k a) = 2 * (codes (book m c) k a : EReal) := by
  rw [iblk2_apply]
  exact congrArg (2 * ·) (hw _)

include hw in
theorem block_transposed (t : Fin cfg0.N) (a : Fin 32) (k : Fin 1024) :
    iblk m c 3 t (ix2 a k) = (codes (book m c) k a : EReal) := by
  rw [iblk3_apply]
  exact hw _

include hx hw

/-- The first result array of the region: at every position, its nearest code. -/
theorem picked_array : (dats m 0 c).arrAt 4 cfg0.N
    = fun i : S8x32x4096.Idx => ((pick (img m c) (book m c) (i 0) (i 1) (i 2) : ℝ) : EReal) := by
  refine (dats m 0 c).arrAt_eq_of_covers 4 _ (by decide +kernel) fun t hf y => ?_
  blk_simp
  rw [after0_4, picked_block]
  have e0 : (win0_4.blk t).view.emb y 0 = pic t := by
    apply Fin.ext; blk_simp [idx t, pic]
  have e1 : (win0_4.blk t).view.emb y 1 = y 1 := by
    apply Fin.ext; blk_simp [idx t]
  have e2 : (win0_4.blk t).view.emb y 2 = pos t (y 2) := by
    apply Fin.ext; blk_simp [idx t, pos]; exact congrArg (· + (y 2).val) (Nat.mul_comm _ _)
  rw [e0, e1, e2]
  refine (congrArg _ (eq_ix3 y)).trans ((pay1_apply _ (y 0) (y 1) (y 2)).trans ?_)
  exact pay6_finite (iblk m c 0 t) (iblk m c 1 t) (iblk m c 2 t) (iblk m c 3 t) (cols m c t) (codes (book m c))
    (block_image m c hx t) (block_codes m c hw t) (block_doubled m c hw t) (block_transposed m c hw t) (y 1) (y 2)

omit hx hw in
/-- The last point writes the running sum back. -/
theorem sum_last : (dats m 0 c).arrAt 5 cfg0.N = (outsAt0 m c lastT.val lastT.isLt).2 := by
  refine (dats m 0 c).arrAt_eq_of_after_last 5 lastT (by decide +kernel) _ fun j => ?_
  blk_simp
  rw [after0_5]

/-- The second: the sum, over the points and over each point's columns, of the squared distances. -/
theorem sum_array (j : S1x1.Idx) : (dats m 0 c).arrAt 5 cfg0.N j
    = ∑ t : Fin cfg0.N, ∑ l : Fin 1024, (gap (img m c) (book m c) (pic t) (pos t l) : EReal) := by
  have step : ∀ (t : Fin cfg0.N) (v : FVec Ideal S1x1 .f32) (j : S1x1.Idx),
      k0_pay3 (k0_pay5 (iblk m c 0 t) (iblk m c 1 t) (iblk m c 2 t)) v j
        = v j + ∑ l : Fin 1024, (gap (img m c) (book m c) (pic t) (pos t l) : EReal) := fun t v j =>
    pay3_finite (iblk m c 0 t) (iblk m c 1 t) (iblk m c 2 t) (cols m c t) (codes (book m c))
      (block_image m c hx t) (block_codes m c hw t) (block_doubled m c hw t) v j
  rw [sum_last, Pipeline.eq_sum_fin_of_reset_step_apply_last (fun n h => (outsAt0 m c n h).2) 32 (fun _ => (0 : EReal))
    (fun t (_ : S1x1.Idx) => ∑ l : Fin 1024, (gap (img m c) (book m c) (pic t) (pos t l) : EReal))
    (fun t h j => by rw [sum_block_first m c t h, step, pay2_apply])
    (fun t h j => by rw [sum_block_later m c t h, step])
    (le_of_eq N_0) lastT rfl j, zero_add]

end Finite

end Cert.Proof.K

end
-- ==== Proof.KernelRun.lean ====
/-
  The kernel's run: what its two results hold when it ends, its host code's last lines included.
-/
module

public import proofs.«01_k».proof.Proof.Arrays

@[expose] public section

set_option maxRecDepth 16384

noncomputable section

namespace Cert.Proof.K

open Idealize.ShloMosaic Idealize.ShloMosaic.TcCoe Idealize.SL.Sem
open Cert.KernelIdeal Cert.KernelIdeal.Gen Cert.Proof.Vq

variable (m : (ℓ : Loc nD τ sig) → Buf (Elt Ideal) ℓ)

/-- The points and their columns are the pictures and their positions. -/
theorem sum_points (g : Fin 8 → Fin 4096 → EReal) :
    ∑ t : Fin cfg0.N, ∑ l : Fin 1024, g (pic t) (pos t l) = ∑ b : Fin 8, ∑ n : Fin 4096, g b n := by
  refine Fin.sum_points_lanes_congr 4 fun t k ha hl => ?_
  exact congrArg (g (pic t)) (Fin.ext (congrArg (· + k.val) (Nat.mul_comm _ _)))

/-- The windows' arrays are distinct. -/
theorem arr_inj : Function.Injective (Pipeline.arrRef spec0) := by decide

/-- The host's last lines: the first result is the first result array put back in the image's layout. -/
theorem tail_image (c : Dev nD) : Pipeline.afterTail₀ cfgs (dats m) 0 (V0 m) [hostOps1] c main_v0_0
    = shapeCast S8x32x64x64 ((dats m 0 c).arrAt 4 cfg0.N : FVec Ideal S8x32x4096 .f32) shapeCasts_S8x32x4096_S8x32x64x64 := by
  unfold Pipeline.afterTail₀
  after_reads_simp
  exact congrArg (fun X : FVec Ideal S8x32x4096 .f32 => shapeCast S8x32x64x64 X shapeCasts_S8x32x4096_S8x32x64x64)
    (Pipeline.withArrays_arr (cfgs 0).spec arr_inj c (V0 m c) (fun w => (dats m 0 c).arrAt w (cfgs 0).N) 4)

/-- The second is the second result array's one element, divided. -/
theorem tail_loss (c : Dev nD) : Pipeline.afterTail₀ cfgs (dats m) 0 (V0 m) [hostOps1] c main_v0_1
    = Host.divf (F := Ideal) (shapeCast S_ ((dats m 0 c).arrAt 5 cfg0.N : FVec Ideal S1x1 .f32) shapeCasts_S1x1_S_)
        (constant S_ .f32 0x49800000#32) := by
  unfold Pipeline.afterTail₀
  after_reads_simp
  exact congrArg (fun X : FVec Ideal S1x1 .f32 =>
      Host.divf (F := Ideal) (shapeCast S_ X shapeCasts_S1x1_S_) (constant S_ .f32 0x49800000#32))
    (Pipeline.withArrays_arr (cfgs 0).spec arr_inj c (V0 m c) (fun w => (dats m 0 c).arrAt w (cfgs 0).N) 5)

/-- On finite arguments that is the quantised image. -/
theorem image_of_array (c : Dev nD) (hx : Finite (img m c)) (hw : Finite (book m c)) :
    shapeCast S8x32x64x64 ((dats m 0 c).arrAt 4 cfg0.N : FVec Ideal S8x32x4096 .f32) shapeCasts_S8x32x4096_S8x32x64x64
      = quantised (img m c) (book m c) := by
  rw [picked_array m c hx hw]
  funext j
  pointwise
  exact congrArg (fun n => ((pick (img m c) (book m c) (j 0) (j 1) n : ℝ) : EReal))
    (Fin.ext (congrArg (· + (j 3).val) (Nat.mul_comm _ _)))

/-- And this is the loss. -/
theorem loss_of_array (c : Dev nD) (hx : Finite (img m c)) (hw : Finite (book m c)) :
    Host.divf (F := Ideal) (shapeCast S_ ((dats m 0 c).arrAt 5 cfg0.N : FVec Ideal S1x1 .f32) shapeCasts_S1x1_S_)
        (constant S_ .f32 0x49800000#32) = fun _ => loss (img m c) (book m c) := by
  funext j
  have h : ∀ i : S1x1.Idx, ((dats m 0 c).arrAt 5 cfg0.N : FVec Ideal S1x1 .f32) i
      = ∑ b : Fin 8, ∑ n : Fin 4096, (gap (img m c) (book m c) b n : EReal) := fun i =>
    (sum_array m c hx hw i).trans (sum_points fun b n => (gap (img m c) (book m c) b n : EReal))
  generalize ((dats m 0 c).arrAt 5 cfg0.N : FVec Ideal S1x1 .f32) = s at h
  have h' : s = fun _ => _ := funext h
  rw [h']
  rfl

/-- The kernel's run. -/
theorem run (ρ : Dev nD → PrngReg) (hx : ∀ c, Finite (img m c)) (hw : ∀ c, Finite (book m c)) :
    θ_run defs (onTc (τ := τ) (main (F := Ideal))) ⟨m, fun _ => 0, ρ⟩ (fun r => ∀ c : Dev nD,
      r.2.mem ((c.tc : Thread nD τ).loc main_v0_0) = quantised (img m c) (book m c)
      ∧ r.2.mem ((c.tc : Thread nD τ).loc main_v0_1) = (fun _ => loss (img m c) (book m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Gen.run_main m ρ
  · exact (tail_image m c).trans (image_of_array m c (hx c) (hw c))
  · exact (tail_loss m c).trans (loss_of_array m c (hx c) (hw c))
  · exact W_main_arg0 m (dats m) c

end Cert.Proof.K

end
-- ==== Proof.RefRun.lean ====
/-
  What the reference computes: its @main is a straight line of host operations (jax's `argmin` and `_take` called in
  it, their bodies in place of the calls), so its run ends with every buffer at the operations' fold over the launch
  contents. The line is cut in four (`opsD`, `opsA`, `opsT`, `opsL`), and each part's result is a named function of
  the part's inputs: the distances, the index of the nearest code, the rows picked, and the two results.
-/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Pipeline.Frame
public import Idealize.ShloMosaic.Lib.Quiescent

@[expose] public section

set_option maxRecDepth 16384

noncomputable section

namespace Cert.Proof.R

open Idealize.ShloMosaic Idealize.SL.Sem Idealize.ShloMosaic.StableHlo
open Cert.ReferenceIdeal Cert.ReferenceIdeal.Gen

variable {F : FTy → Type} [FloatOps F]

/-! ## The parts' results as functions -/

/-- The image as rows of channels: `[8, 32, 64, 64]` reshaped to `[8, 32, 4096]`, then its last two axes swapped. -/
def rows (x : FVec F S8x32x64x64 .f32) : FVec F S8x4096x32 .f32 :=
  transpose S8x4096x32 [0, 2, 1] (shapeCast S8x32x4096 x shapeCasts_S8x32x64x64_S8x32x4096)
    transposes_S8x32x4096_S8x4096x32_0_2_1

/-- The distance of every row of the image to every code: the square root of `max(|z|² + |w|² - 2 z·w, 0)`. -/
def dist (x : FVec F S8x32x64x64 .f32) (w : FVec F S1024x32 .f32) : FVec F S8x4096x1024 .f32 :=
  Host.sqrt (maximumf
    (subf
      (addf
        (broadcastInDim S8x4096x1024 ![0, 1, 2] bcast_S8x4096x1_S8x4096x1024_0_1_2
          (broadcastInDim S8x4096x1 ![0, 1] bcast_S8x4096_S8x4096x1_0_1
            (Host.reduceAdd (mulf (rows x) (rows x)) (constant S_ .f32 0x00000000#32)
              reducesTo_S8x4096x32_S8x4096_d2 h_S_)))
        (broadcastInDim S8x4096x1024 ![0, 1, 2] bcast_S1x1x1024_S8x4096x1024_0_1_2
          (broadcastInDim S1x1x1024 ![2] bcast_S1024_S1x1x1024_2
            (Host.reduceAdd (mulf w w) (constant S_ .f32 0x00000000#32) reducesTo_S1024x32_S1024_d1 h_S_))))
      (mulf (broadcastInDim S8x4096x1024 ![] bcast_S_S8x4096x1024 (constant S_ .f32 0x40000000#32))
        (Host.dotGeneral dot_S8x4096x32_S1024x32_S8x4096x1024_2_1_01_0_n_n none (rows x) w)))
    (broadcastInDim S8x4096x1024 ![] bcast_S_S8x4096x1024 (constant S_ .f32 0x00000000#32)))

/-- The index of the nearest code: the index result of the two-operand reduce of the distances and an iota. -/
def nearest (d : FVec F S8x4096x1024 .f32) : IVec S8x4096 32 := fun j =>
  (Host.argReduce reducer_argmin_f32_i32 d (iotaInDim S8x4096x1024 32 2) (constant S_ .f32 0x7F800000#32)
    (constantI S_ 32 0#32) reducesTo_S8x4096x1024_S8x4096_d2 h_S_ j).2

/-- jnp's reading of an index: a negative one counts from the end. -/
def wrap (i : IVec S8x4096 32) : IVec S8x4096 32 :=
  select (cmpi .slt i (broadcastInDim S8x4096 ![] bcast_S_S8x4096 (constantI S_ 32 0#32)))
    (addi i (broadcastInDim S8x4096 ![] bcast_S_S8x4096 (constantI S_ 32 1024#32))) i

/-- The same with a trailing axis of size one: the gather's index table. -/
def table (i : IVec S8x4096 32) : IVec S8x4096x1 32 :=
  broadcastInDim S8x4096x1 ![0, 1] bcast_S8x4096_S8x4096x1_0_1 (wrap i)

/-- Whether each index is one of a row of the codebook, `0 ≤ i ≤ 1023`. -/
def within (i : IVec S8x4096 32) : IVec S8x4096 1 :=
  Host.reduce IntOp.andi
    (andi (cmpi .sge (table i) (broadcastInDim S8x4096x1 ![] bcast_S_S8x4096x1 (constantI S_ 32 0#32)))
      (cmpi .sle (table i)
        (broadcastInDim S8x4096x1 ![0, 1, 2] bcast_S1x1x1_S8x4096x1_0_1_2
          (broadcastInDim S1x1x1 ![2] bcast_S1_S1x1x1_2 (constantI S1 32 1023#32)))))
    (constantI S_ 1 1#1) reducesTo_S8x4096x1_S8x4096_d2 h_S_

/-- The rows of the codebook at the indices, a quiet NaN where an index is none of a row. -/
def taken (w : FVec F S1024x32 .f32) (i : IVec S8x4096 32) : FVec F S8x4096x32 .f32 :=
  select (broadcastInDim S8x4096x32 ![0, 1] bcast_S8x4096_S8x4096x32_0_1 (within i))
    (Host.gather gather_S1024x32_S8x4096x1_S8x4096x32_2_0_n_n_0_2_132 w (table i))
    (broadcastInDim S8x4096x32 ![] bcast_S_S8x4096x32 (constant S_ .f32 0x7FC00000#32))

/-- The rows put back in the image's layout. -/
def image (q : FVec F S8x4096x32 .f32) : FVec F S8x32x64x64 .f32 :=
  shapeCast S8x32x64x64 (transpose S8x32x4096 [0, 2, 1] q transposes_S8x4096x32_S8x32x4096_0_2_1)
    shapeCasts_S8x32x4096_S8x32x64x64

/-- The loss: the mean of the squared differences. -/
def loss (x y : FVec F S8x32x64x64 .f32) : FVec F S_ .f32 :=
  Host.divf
    (Host.reduceAdd (mulf (subf y x) (subf y x)) (constant S_ .f32 0x00000000#32) reducesTo_S8x32x64x64_S_d0_1_2_3 h_S_)
    (constant S_ .f32 0x49800000#32)

/-- The straight-through output `x + (y - x)`. -/
def through (x y : FVec F S8x32x64x64 .f32) : FVec F S8x32x64x64 .f32 := addf x (subf y x)

/-- The quantised image: the rows of the codebook nearest to the image's rows, in the image's layout. -/
def quantised (x : FVec F S8x32x64x64 .f32) (w : FVec F S1024x32 .f32) : FVec F S8x32x64x64 .f32 :=
  image (taken w (nearest (dist x w)))

/-! ## The line of operations -/

/-- The first part of @main: from the two arguments to the distances. -/
abbrev opsD : List (HloOp τ sig (Elt F)) :=
  [ reshape main_arg0 main_v0 rfl shapeCasts_S8x32x64x64_S8x32x4096,
    unary main_v0 main_v1 (transpose S8x4096x32 [0, 2, 1] · transposes_S8x32x4096_S8x4096x32_0_2_1),
    binary main_v1 main_v1 main_v2 mulf,
    nullary main_cst (constant S_ .f32 0x00000000#32),
    binary main_v2 main_cst main_v3 (fun x v => Host.reduceAdd x v reducesTo_S8x4096x32_S8x4096_d2 h_S_),
    unary main_v3 main_v4 (broadcastInDim S8x4096x1 ![0, 1] bcast_S8x4096_S8x4096x1_0_1),
    binary main_arg1 main_arg1 main_v5 mulf,
    nullary main_cst_0 (constant S_ .f32 0x00000000#32),
    binary main_v5 main_cst_0 main_v6 (fun x v => Host.reduceAdd x v reducesTo_S1024x32_S1024_d1 h_S_),
    unary main_v6 main_v7 (broadcastInDim S1x1x1024 ![2] bcast_S1024_S1x1x1024_2),
    unary main_v4 main_v8 (broadcastInDim S8x4096x1024 ![0, 1, 2] bcast_S8x4096x1_S8x4096x1024_0_1_2),
    unary main_v7 main_v9 (broadcastInDim S8x4096x1024 ![0, 1, 2] bcast_S1x1x1024_S8x4096x1024_0_1_2),
    binary main_v8 main_v9 main_v10 addf,
    binary main_v1 main_arg1 main_v11 (fun l r => Host.dotGeneral dot_S8x4096x32_S1024x32_S8x4096x1024_2_1_01_0_n_n none l r),
    nullary main_cst_1 (constant S_ .f32 0x40000000#32),
    unary main_cst_1 main_v12 (broadcastInDim S8x4096x1024 ![] bcast_S_S8x4096x1024),
    binary main_v12 main_v11 main_v13 mulf,
    binary main_v10 main_v13 main_v14 subf,
    nullary main_cst_2 (constant S_ .f32 0x00000000#32),
    unary main_cst_2 main_v15 (broadcastInDim S8x4096x1024 ![] bcast_S_S8x4096x1024),
    binary main_v14 main_v15 main_v16 maximumf,
    unary main_v16 main_v17 Host.sqrt ]

/-- The call of jax's `argmin` on the distances, over that call's buffers. -/
abbrev opsA : List (HloOp τ sig (Elt F)) :=
  [ TRef.nullary main_call0.v0 (iotaInDim S8x4096x1024 32 2),
    TRef.nullary main_call0.cst (constant S_ .f32 0x7F800000#32),
    TRef.nullary main_call0.c (constantI S_ 32 0#32),
    TRef.quaternary (.of main_v17) main_call0.v0 main_call0.cst main_call0.c main_call0.v1_0 (fun x y u v j => (Host.argReduce reducer_argmin_f32_i32 x y u v reducesTo_S8x4096x1024_S8x4096_d2 h_S_ j).1),
    TRef.quaternary (.of main_v17) main_call0.v0 main_call0.cst main_call0.c main_call0.v1_1 (fun x y u v j => (Host.argReduce reducer_argmin_f32_i32 x y u v reducesTo_S8x4096x1024_S8x4096_d2 h_S_ j).2) ]

/-- The call of jax's `_take` of the codebook at the indices, over that call's buffers. -/
abbrev opsT : List (HloOp τ sig (Elt F)) :=
  [ TRef.nullary main_call1.c (constantI S_ 32 0#32),
    TRef.unary main_call1.c main_call1.v0 (broadcastInDim S8x4096 ![] bcast_S_S8x4096),
    TRef.binary (.of main_v18) main_call1.v0 main_call1.v1 (cmpi .slt),
    TRef.nullary main_call1.c_0 (constantI S_ 32 1024#32),
    TRef.unary main_call1.c_0 main_call1.v2 (broadcastInDim S8x4096 ![] bcast_S_S8x4096),
    TRef.binary (.of main_v18) main_call1.v2 main_call1.v3 addi,
    TRef.ternary main_call1.v1 main_call1.v3 (.of main_v18) main_call1.call0.v0 select,
    TRef.unary main_call1.call0.v0 main_call1.v5 (broadcastInDim S8x4096x1 ![0, 1] bcast_S8x4096_S8x4096x1_0_1),
    TRef.nullary main_call1.c_1 (constantI S1 32 1023#32),
    TRef.nullary main_call1.c_2 (constantI S_ 32 0#32),
    TRef.unary main_call1.c_2 main_call1.v6 (broadcastInDim S8x4096x1 ![] bcast_S_S8x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S8x4096x1 ![0, 1, 2] bcast_S1x1x1_S8x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x4096x1_S8x4096_d2 h_S_),
    TRef.binary (.of main_arg1) main_call1.v5 main_call1.v13 (fun x i => Host.gather gather_S1024x32_S8x4096x1_S8x4096x32_2_0_n_n_0_2_132 x i),
    TRef.unary main_call1.v12 main_call1.v14 (broadcastInDim S8x4096x32 ![0, 1] bcast_S8x4096_S8x4096x32_0_1),
    TRef.nullary main_call1.cst (constant S_ .f32 0x7FC00000#32),
    TRef.unary main_call1.cst main_call1.v15 (broadcastInDim S8x4096x32 ![] bcast_S_S8x4096x32),
    TRef.ternary main_call1.v14 main_call1.v13 main_call1.v15 main_call1.v16 select ]

/-- The last part of @main: the picked rows put back in the image's layout, the loss and the straight-through output. -/
abbrev opsL : List (HloOp τ sig (Elt F)) :=
  [ unary main_v19 main_v20 (transpose S8x32x4096 [0, 2, 1] · transposes_S8x4096x32_S8x32x4096_0_2_1),
    reshape main_v20 main_v21 rfl shapeCasts_S8x32x4096_S8x32x64x64,
    binary main_v21 main_arg0 main_v22 subf,
    binary main_v22 main_v22 main_v23 mulf,
    nullary main_cst_3 (constant S_ .f32 0x00000000#32),
    binary main_v23 main_cst_3 main_v24 (fun x v => Host.reduceAdd x v reducesTo_S8x32x64x64_S_d0_1_2_3 h_S_),
    nullary main_cst_4 (constant S_ .f32 0x49800000#32),
    binary main_v24 main_cst_4 main_v25 Host.divf,
    binary main_v21 main_arg0 main_v26 subf,
    binary main_arg0 main_v26 main_v27 addf ]

/-- @main's sixty operations in order, the calls' bodies in place of the calls. -/
abbrev ops : List (HloOp τ sig (Elt F)) := opsD ++ (opsA ++ (opsT ++ opsL))

/-- @main is that straight line. -/
theorem main_eq (c : Dev nD) : main (F := F) c = seq ops := by
  simp only [main, fn_argmin.body, fn_take.body, fn_where.body, ops, List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are the TensorCore's. -/
theorem ops_sub : (ops : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., binary_bufs_sub .., binary_bufs_sub .., nullary_bufs_sub .., binary_bufs_sub .., nullary_bufs_sub .., binary_bufs_sub .., binary_bufs_sub .., binary_bufs_sub ..⟩

/-- The reference's run: every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef (τ := τ) .tc b) :=
  run_seq scopedRefs_eq scopedSems_eq defs main (fun _ => ops) main_eq (fun _ => ops_sub) m ρ

/-! ## Each part read at its results -/

/-- The first part leaves the distances at `main_v17`. -/
theorem partD (V : Valuation τ sig (Elt F)) :
    after opsD V (Proc.devRef (τ := τ) .tc main_v17) = dist (V (Proc.devRef (τ := τ) .tc main_arg0)) (V (Proc.devRef (τ := τ) .tc main_arg1)) := by
  after_results_simp
  rfl

/-- The call of `argmin` leaves the index of the nearest code at `main_v18`. -/
theorem partA (V : Valuation τ sig (Elt F)) :
    after opsA V (Proc.devRef (τ := τ) .tc main_v18) = nearest (V (Proc.devRef (τ := τ) .tc main_v17)) := by
  after_results_simp
  rfl

/-- The call of `_take` leaves the picked rows at `main_v19`. -/
theorem partT (V : Valuation τ sig (Elt F)) :
    after opsT V (Proc.devRef (τ := τ) .tc main_v19) = taken (V (Proc.devRef (τ := τ) .tc main_arg1)) (V (Proc.devRef (τ := τ) .tc main_v18)) := by
  after_results_simp
  simp only [TRef.ofBuf_toBuf]
  have e1 : (TRef.of (sig := sig) (T := ⟨S1024x32, .f32⟩) main_arg1).ofBuf (V (Proc.devRef .tc main_arg1)) = V (Proc.devRef .tc main_arg1) := rfl
  have e2 : (TRef.of (sig := sig) (T := ⟨S8x4096, .i32⟩) main_v18).ofBuf (V (Proc.devRef .tc main_v18)) = V (Proc.devRef .tc main_v18) := rfl
  have e3 (X : FVec F S8x4096x32 .f32) : (TRef.of (sig := sig) (T := ⟨S8x4096x32, .f32⟩) main_v19).toBuf (Val := Elt F) X = X := rfl
  simp only [e1, e2]
  exact e3 _

/-- The last part leaves the straight-through output at `main_v27`, -/
theorem partL_out (V : Valuation τ sig (Elt F)) :
    after opsL V (Proc.devRef (τ := τ) .tc main_v27) = through (V (Proc.devRef (τ := τ) .tc main_arg0)) (image (V (Proc.devRef (τ := τ) .tc main_v19))) := by
  after_results_simp
  rfl

/-- and the loss at `main_v25`. -/
theorem partL_loss (V : Valuation τ sig (Elt F)) :
    after opsL V (Proc.devRef (τ := τ) .tc main_v25) = loss (V (Proc.devRef (τ := τ) .tc main_arg0)) (image (V (Proc.devRef (τ := τ) .tc main_v19))) := by
  after_results_simp
  rfl

theorem keepD_arg0 (V : Valuation τ sig (Elt F)) :
    after opsD V (Proc.devRef (τ := τ) .tc main_arg0) = V (Proc.devRef (τ := τ) .tc main_arg0) := by
  simp only [after_cons, after_nil]
  rfl

theorem keepD_arg1 (V : Valuation τ sig (Elt F)) :
    after opsD V (Proc.devRef (τ := τ) .tc main_arg1) = V (Proc.devRef (τ := τ) .tc main_arg1) := by
  simp only [after_cons, after_nil]
  rfl

theorem keepA_arg0 (V : Valuation τ sig (Elt F)) :
    after opsA V (Proc.devRef (τ := τ) .tc main_arg0) = V (Proc.devRef (τ := τ) .tc main_arg0) := by
  simp only [after_cons, after_nil]
  rfl

theorem keepA_arg1 (V : Valuation τ sig (Elt F)) :
    after opsA V (Proc.devRef (τ := τ) .tc main_arg1) = V (Proc.devRef (τ := τ) .tc main_arg1) := by
  simp only [after_cons, after_nil]
  rfl

theorem keepT_arg0 (V : Valuation τ sig (Elt F)) :
    after opsT V (Proc.devRef (τ := τ) .tc main_arg0) = V (Proc.devRef (τ := τ) .tc main_arg0) := by
  simp only [after_cons, after_nil]
  rfl

theorem keepT_arg1 (V : Valuation τ sig (Elt F)) :
    after opsT V (Proc.devRef (τ := τ) .tc main_arg1) = V (Proc.devRef (τ := τ) .tc main_arg1) := by
  simp only [after_cons, after_nil]
  rfl

theorem keepL_arg0 (V : Valuation τ sig (Elt F)) :
    after opsL V (Proc.devRef (τ := τ) .tc main_arg0) = V (Proc.devRef (τ := τ) .tc main_arg0) := by
  simp only [after_cons, after_nil]
  rfl

theorem keepL_arg1 (V : Valuation τ sig (Elt F)) :
    after opsL V (Proc.devRef (τ := τ) .tc main_arg1) = V (Proc.devRef (τ := τ) .tc main_arg1) := by
  simp only [after_cons, after_nil]
  rfl

/-! ## The line's results -/

/-- The reference's first result: the straight-through output of the quantised image. -/
theorem out_eq (V : Valuation τ sig (Elt F)) :
    after ops V (Proc.devRef (τ := τ) .tc main_v27)
      = through (V (Proc.devRef (τ := τ) .tc main_arg0)) (quantised (V (Proc.devRef (τ := τ) .tc main_arg0)) (V (Proc.devRef (τ := τ) .tc main_arg1))) := by
  simp only [ops, after_append]
  rw [partL_out, partT, partA, partD, keepT_arg0, keepA_arg0, keepA_arg1, keepD_arg0, keepD_arg1]
  rfl

/-- The reference's second result: the loss of the quantised image. -/
theorem loss_eq (V : Valuation τ sig (Elt F)) :
    after ops V (Proc.devRef (τ := τ) .tc main_v25)
      = loss (V (Proc.devRef (τ := τ) .tc main_arg0)) (quantised (V (Proc.devRef (τ := τ) .tc main_arg0)) (V (Proc.devRef (τ := τ) .tc main_arg1))) := by
  simp only [ops, after_append]
  rw [partL_loss, partT, partA, partD, keepT_arg0, keepA_arg0, keepA_arg1, keepD_arg0, keepD_arg1]
  rfl

theorem arg0_eq (V : Valuation τ sig (Elt F)) :
    after ops V (Proc.devRef (τ := τ) .tc main_arg0) = V (Proc.devRef (τ := τ) .tc main_arg0) := by
  simp only [ops, after_append]
  rw [keepL_arg0, keepT_arg0, keepA_arg0, keepD_arg0]

theorem arg1_eq (V : Valuation τ sig (Elt F)) :
    after ops V (Proc.devRef (τ := τ) .tc main_arg1) = V (Proc.devRef (τ := τ) .tc main_arg1) := by
  simp only [ops, after_append]
  rw [keepL_arg1, keepT_arg1, keepA_arg1, keepD_arg1]

end Cert.Proof.R

end
-- ==== Proof.RefArgmin.lean ====
/-
  The reference's distances on finite arguments, and the index its argmin finds: that of the nearest code.
-/
module

public import proofs.«01_k».proof.Proof.RefRun
public import proofs.«01_k».proof.Proof.Spec
public import proofs.«01_k».proof.Proof.Consts
public import Idealize.ShloMosaic.PureOps.Ideal.Laws
public import Idealize.ShloMosaic.Lib.StableHlo.Predicate

@[expose] public section

set_option maxRecDepth 16384

noncomputable section

namespace Cert.Proof.R

open Idealize.ShloMosaic
open Cert.ReferenceIdeal Cert.ReferenceIdeal.Gen Cert.Proof.Vq

/-- A row of the image. -/
theorem rows_apply (x : FVec Ideal S8x32x64x64 .f32) (b : Fin 8) (n : Fin 4096) (c : Fin 32) :
    rows x (ix3 b n c) = x (ix4 b c ⟨n.val / 64, by omega⟩ ⟨n.val % 64, by omega⟩) := by
  pointwise [rows]

/-- A distance: the square root of the two squared lengths less twice the product, cut below at zero. -/
theorem dist_apply (x : FVec Ideal S8x32x64x64 .f32) (w : FVec Ideal S1024x32 .f32) (b : Fin 8) (n : Fin 4096) (k : Fin 1024) :
    dist x w (ix3 b n k)
      = Ideal.sqrt (max (((∑ c : Fin 32, rows x (ix3 b n c) * rows x (ix3 b n c)) + ∑ c : Fin 32, w (ix2 k c) * w (ix2 k c))
          - Ideal.ofBits .f32 0x40000000#32 * ∑ c : Fin 32, rows x (ix3 b n c) * w (ix2 k c)) 0) := by
  pointwise [dist]

/-- On finite arguments the distances are the distances. -/
theorem dist_finite (x : FVec Ideal S8x32x64x64 .f32) (w : FVec Ideal S1024x32 .f32) (hx : Finite x) (hw : Finite w)
    (b : Fin 8) (n : Fin 4096) (k : Fin 1024) : dist x w (ix3 b n k) = (root (codes w) (row x b n) k : EReal) := by
  have hz : ∀ c, rows x (ix3 b n c) = (row x b n c : EReal) := fun c => (rows_apply x b n c).trans (hx _)
  have hc : ∀ c, w (ix2 k c) = (codes w k c : EReal) := fun c => hw _
  rw [dist_apply, two_f32]
  simp only [hz, hc]
  refine (congrArg Ideal.sqrt (reference_sq (codes w) (row x b n) k)).trans ?_
  exact sqrt_coe _ (sq_nonneg _ _ _)

/-- Comparing two codes' indices. -/
theorem slt_ofNat (a b : Fin 1024) :
    IntOp.cmpi .slt (BitVec.ofNat 32 a.val) (BitVec.ofNat 32 b.val) = BitVec.ofBool (decide (a < b)) := by
  have ha := a.isLt
  have hb := b.isLt
  show BitVec.ofBool ((BitVec.ofNat 32 a.val).slt (BitVec.ofNat 32 b.val)) = _
  rw [BitVec.slt, StableHlo.Predicate.toInt_ofNat_small _ (by omega), StableHlo.Predicate.toInt_ofNat_small _ (by omega)]
  congr 1
  exact decide_eq_decide.mpr (Int.ofNat_lt.trans Fin.lt_def.symm)

/-- The argmin's body keeps the smaller distance, of two equal ones the one with the smaller index. -/
theorem reducer_keeps (d : Fin 1024 → ℝ) :
    Keeps (reducer_argmin_f32_i32 (F := Ideal)) (fun k : Fin 1024 => BitVec.ofNat 32 k.val) d := by
  intro a b
  unfold reducer_argmin_f32_i32
  simp only [Ideal.cmpf_def, Ideal.cmp, slt_ofNat, EReal.coe_lt_coe_iff, EReal.coe_eq_coe_iff]
  rcases lt_trichotomy (d a) (d b) with h | h | h
  · simp [h, h.ne, IntOp.ori, IntOp.andi, Scalar.select]
  · by_cases hab : a < b <;> simp [h, hab, IntOp.ori, IntOp.andi, Scalar.select]
  · simp [h, h.ne', h.not_gt, IntOp.ori, IntOp.andi, Scalar.select]

/-- From the initial pair the body takes whatever comes. -/
theorem reducer_init (d : Fin 1024 → ℝ) (b : Fin 1024) :
    reducer_argmin_f32_i32 (F := Ideal) ((⊤ : EReal), 0#32) ((d b : EReal), BitVec.ofNat 32 b.val)
      = ((d b : EReal), BitVec.ofNat 32 b.val) := by
  unfold reducer_argmin_f32_i32
  simp only [Ideal.cmpf_def, Ideal.cmp]
  simp [IntOp.ori, IntOp.andi, Scalar.select]

/-- The indices that the reduction at `(b, n)` runs over are those of row `n` of picture `b`. -/
theorem drop_eq_iff (b : Fin 8) (n : Fin 4096) (i : S8x4096x1024.Idx) :
    reducesTo_S8x4096x1024_S8x4096_d2.drop i = ix2 b n ↔ i = ix3 b n (i 2) := by
  have h0 : (reducesTo_S8x4096x1024_S8x4096_d2.drop i 0).val = (i 0).val := rfl
  have h1 : (reducesTo_S8x4096x1024_S8x4096_d2.drop i 1).val = (i 1).val := rfl
  constructor
  · intro h
    rw [h] at h0 h1
    funext a
    match a with
    | ⟨0, _⟩ => exact Fin.ext h0.symm
    | ⟨1, _⟩ => exact Fin.ext h1.symm
    | ⟨2, _⟩ => rfl
  · intro h
    funext a
    match a with
    | ⟨0, _⟩ => exact Fin.ext (h0.trans (congrArg (fun j : S8x4096x1024.Idx => (j 0).val) h))
    | ⟨1, _⟩ => exact Fin.ext (h1.trans (congrArg (fun j : S8x4096x1024.Idx => (j 1).val) h))

/-- A two-operand reduce by that body, at a result index whose values are reals `d` at positions `p` and whose second
    operand is those positions: the index found is that of the first least. -/
theorem arg_of_real {s t u : Shape} {axes : List (Fin s.rank)} (h : s.ReducesTo axes t) (hu : 0 < u.numel)
    (v : FVec Ideal s .f32) (y : IVec s 32) (ix : FVec Ideal u .f32) (iy : IVec u 32)
    (hix : ix (Shape.Idx.first hu) = (⊤ : EReal)) (hiy : iy (Shape.Idx.first hu) = 0#32) (j : t.Idx)
    (p : s.Idx → Fin 1024) (d : Fin 1024 → ℝ) (hv : ∀ i, h.drop i = j → v i = (d (p i) : EReal))
    (hy : ∀ i, h.drop i = j → y i = BitVec.ofNat 32 (p i).val) (hp : ∀ k, ∃ i, h.drop i = j ∧ p i = k) :
    (Host.argReduce (reducer_argmin_f32_i32 (F := Ideal)) v y ix iy h hu j).2 = BitVec.ofNat 32 (first d).val := by
  rw [Ideal.argReduce_eq_reduce2, Host.reduce2_eq_foldl_fiber, hix, hiy]
  have hfib : Host.argReduceFiber v y h j
      = (((List.finRange s.numel).filter fun q => h.drop (s.rowMajor.symm q) = j).map fun q => p (s.rowMajor.symm q)).map
          fun k => ((d k : EReal), BitVec.ofNat 32 k.val) := by
    unfold Host.argReduceFiber
    rw [List.map_map]
    refine List.map_congr_left fun q hq => ?_
    have hi := of_decide_eq_true (List.mem_filter.mp hq).2
    exact Prod.ext (hv _ hi) (hy _ hi)
  rw [hfib]
  exact congrArg Prod.snd (foldl_first (reducer_argmin_f32_i32 (F := Ideal)) (fun k : Fin 1024 => BitVec.ofNat 32 k.val) d
    (reducer_keeps d) _ (reducer_init d) _ fun k => by
      obtain ⟨i, hi, hk⟩ := hp k
      refine List.mem_map.mpr ⟨s.rowMajor i, List.mem_filter.mpr ⟨List.mem_finRange _, ?_⟩, ?_⟩
      · rw [Equiv.symm_apply_apply]
        exact decide_eq_true hi
      · rw [Equiv.symm_apply_apply]
        exact hk)

/-- The index result, as a function of the result index. -/
theorem nearest_fun (v : FVec Ideal S8x4096x1024 .f32) : nearest v = fun j =>
    (Host.argReduce (reducer_argmin_f32_i32 (F := Ideal)) v (iotaInDim S8x4096x1024 32 2)
      (constant (F := Ideal) S_ .f32 0x7F800000#32) (constantI S_ 32 0#32) reducesTo_S8x4096x1024_S8x4096_d2 h_S_ j).2 :=
  rfl

/-- Where a row's values are the reals `d`, the index found is that of the first least of them. -/
theorem nearest_of_real (v : FVec Ideal S8x4096x1024 .f32) (b : Fin 8) (n : Fin 4096) (d : Fin 1024 → ℝ)
    (hd : ∀ k, v (ix3 b n k) = (d k : EReal)) : nearest v (ix2 b n) = BitVec.ofNat 32 (first d).val :=
  (congrFun (nearest_fun v) (ix2 b n)).trans (arg_of_real reducesTo_S8x4096x1024_S8x4096_d2 h_S_ v (iotaInDim S8x4096x1024 32 2) (constant (F := Ideal) S_ .f32 0x7F800000#32)
    (constantI S_ 32 0#32) inf_f32 rfl (ix2 b n) (fun i => i 2) d
    (fun i hi => (congrArg v ((drop_eq_iff b n i).mp hi)).trans (hd (i 2))) (fun i _ => rfl)
    (fun k => ⟨ix3 b n k, (drop_eq_iff b n _).mpr rfl, rfl⟩))

/-- On finite arguments it is the nearest code's. -/
theorem nearest_finite (x : FVec Ideal S8x32x64x64 .f32) (w : FVec Ideal S1024x32 .f32) (hx : Finite x) (hw : Finite w)
    (b : Fin 8) (n : Fin 4096) :
    nearest (dist x w) (ix2 b n) = BitVec.ofNat 32 (near (codes w) (row x b n)).val :=
  nearest_of_real (dist x w) b n (root (codes w) (row x b n)) (dist_finite x w hx hw b n)

end Cert.Proof.R

end
-- ==== Proof.RefTake.lean ====
/-
  The reference's rows of the codebook at given indices, where an index is that of a code.
-/
module

public import proofs.«01_k».proof.Proof.RefRun
public import Idealize.ShloMosaic.Lib.Pointwise
public import Idealize.ShloMosaic.Lib.StableHlo.Predicate

@[expose] public section

set_option maxRecDepth 16384

noncomputable section

namespace Cert.Proof.R

open Idealize.ShloMosaic
open Cert.ReferenceIdeal Cert.ReferenceIdeal.Gen

variable (i : IVec S8x4096 32) (b : Fin 8) (n : Fin 4096) (k : Fin 1024)

/-- A code's index is not negative, and at most the last one's. -/
theorem not_negative : ∀ k : Fin 1024, IntOp.cmpi .slt (BitVec.ofNat 32 k.val) 0#32 = 0#1 := by decide +kernel

theorem in_range : ∀ k : Fin 1024, IntOp.andi (IntOp.cmpi .sge (BitVec.ofNat 32 k.val) 0#32)
    (IntOp.cmpi .sle (BitVec.ofNat 32 k.val) 1023#32) = 1#1 := by decide +kernel

/-- So it is read as it stands. -/
theorem wrap_apply (hi : i (ix2 b n) = BitVec.ofNat 32 k.val) : wrap i (ix2 b n) = BitVec.ofNat 32 k.val := by
  pointwise [wrap]
  rw [hi, not_negative]
  rfl

/-- The index table's entry. -/
theorem table_apply (hi : i (ix2 b n) = BitVec.ofNat 32 k.val) (a : Fin 1) : table i (ix3 b n a) = BitVec.ofNat 32 k.val := by
  have h : table i (ix3 b n a) = wrap i (ix2 b n) := by pointwise [table]
  rw [h, wrap_apply i b n k hi]

/-- And it is found to be in range. -/
theorem within_apply (hi : i (ix2 b n) = BitVec.ofNat 32 k.val) : within i (ix2 b n) = 1#1 := by
  pointwise [within]
  simp only [table_apply i b n k hi, in_range]
  rw [Finset.univ_unique, Finset.fold_singleton]
  rfl

/-- The gather reads the codebook's row at that index. -/
theorem gather_apply {α : Type} (w : S1024x32.Idx → α) (t : IVec S8x4096x1 32) (ht : t (ix3 b n 0) = BitVec.ofNat 32 k.val)
    (c : Fin 32) :
    Host.gather gather_S1024x32_S8x4096x1_S8x4096x32_2_0_n_n_0_2_132 w t (ix3 b n c) = w (ix2 k c) := by
  unfold Host.gather
  refine congrArg w (funext fun a => Fin.ext ?_)
  generalize hD : gather_S1024x32_S8x4096x1_S8x4096x32_2_0_n_n_0_2_132 = D
  match a with
  | ⟨0, _⟩ =>
    show D.start (ix3 b n c) t 0 + D.batchCoord (ix3 b n c) 0 + D.offCoord (ix3 b n c) 0 = k.val
    subst hD
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x32_S8x4096x1_S8x4096x32_2_0_n_n_0_2_132.startIndexMap from List.mem_singleton.mpr rfl)]
    have hsi : gather_S1024x32_S8x4096x1_S8x4096x32_2_0_n_n_0_2_132.siIdx (ix3 b n c)
        ⟨List.idxOf (0 : Fin 2) gather_S1024x32_S8x4096x1_S8x4096x32_2_0_n_n_0_2_132.startIndexMap,
          List.idxOf_lt_length_iff.2 (List.mem_singleton.mpr rfl)⟩ = ix3 b n 0 := by
      funext e; refine Fin.ext ?_
      match e with
      | ⟨0, _⟩ => rfl
      | ⟨1, _⟩ => rfl
      | ⟨2, _⟩ => rfl
    have hk := k.isLt
    rw [hsi, ht, StableHlo.Predicate.toInt_ofNat_small _ (by omega)]
    show min ((k.val : Int)).toNat (1024 - 1) = k.val
    omega
  | ⟨1, _⟩ =>
    show D.start (ix3 b n c) t 1 + D.batchCoord (ix3 b n c) 1 + D.offCoord (ix3 b n c) 1 = c.val
    subst hD
    rw [GatherDims.batchCoord_eq_zero _ _ _ List.not_mem_nil, Nat.add_zero]
    unfold GatherDims.start GatherDims.offCoord
    rw [dif_neg (by decide), dif_pos (by decide), Nat.zero_add]
    rfl

/-- The row taken. -/
theorem taken_apply (w : FVec Ideal S1024x32 .f32) (hi : i (ix2 b n) = BitVec.ofNat 32 k.val) (c : Fin 32) :
    taken w i (ix3 b n c) = w (ix2 k c) := by
  pointwise [taken]
  rw [within_apply i b n k hi, gather_apply b n k w (table i) (table_apply i b n k hi 0) c]
  rfl

end Cert.Proof.R

end
-- ==== Proof.RefValue.lean ====
/-
  The reference's two results on finite arguments: the quantised image, and the loss.
-/
module

public import proofs.«01_k».proof.Proof.RefArgmin
public import proofs.«01_k».proof.Proof.RefTake
public import Idealize.ShloMosaic.Lib.Pipeline.ValueKit.Acc

@[expose] public section

set_option maxRecDepth 16384

noncomputable section

namespace Cert.Proof.R

open Idealize.ShloMosaic
open Cert.ReferenceIdeal Cert.ReferenceIdeal.Gen Cert.Proof.Vq

variable (x : FVec Ideal S8x32x64x64 .f32) (w : FVec Ideal S1024x32 .f32) (hx : Finite x) (hw : Finite w)
include hx hw

/-- The quantised image. -/
theorem quantised_finite : R.quantised x w = Vq.quantised x w := by
  funext j
  have h : R.quantised x w j = taken w (nearest (dist x w)) (ix3 (j 0) ⟨(j 2).val * 64 + (j 3).val, by
      have h2 : (j 2).val < 64 := (j 2).isLt
      have h3 : (j 3).val < 64 := (j 3).isLt
      omega⟩ (j 1)) := by
    pointwise [R.quantised, image]
  refine h.trans ((taken_apply _ _ _ _ w (nearest_finite x w hx hw _ _) _).trans ((hw _).trans ?_))
  exact congrArg (fun n => ((pick x w (j 0) (j 1) n : ℝ) : EReal)) (Fin.ext (congrArg (· + (j 3).val) (Nat.mul_comm _ _)))

/-- The straight-through output is the quantised image. -/
theorem through_finite : through x (R.quantised x w) = Vq.quantised x w := by
  rw [quantised_finite x w hx hw]
  funext j
  show x j + (Vq.quantised x w j - x j) = Vq.quantised x w j
  rw [hx j]
  exact through_coe _ _

omit hx hw in
/-- One position's squared differences add up to its squared distance to its nearest code. -/
theorem sum_channels (b : Fin 8) (n : Fin 4096) :
    ∑ c : Fin 32, (((codes w (near (codes w) (row x b n)) c - row x b n c) ^ 2 : ℝ) : EReal) = (gap x w b n : EReal) :=
  (coe_sum _ _).symm

omit hx hw in
/-- Where a position stands among the rows. -/
def place (p q : Fin 64) : Fin 4096 := ⟨64 * p.val + q.val, by omega⟩

omit hx hw in
/-- A channel's squared difference at a position. -/
def square (b : Fin 8) (c : Fin 32) (p q : Fin 64) : EReal :=
  (((codes w (near (codes w) (row x b (place p q))) c - row x b (place p q) c) ^ 2 : ℝ) : EReal)

omit hw in
/-- It is the one the reference squares. -/
theorem square_apply (b : Fin 8) (c : Fin 32) (p q : Fin 64) :
    mulf (F := Ideal) (φ := .f32) (subf (F := Ideal) (φ := .f32) (Vq.quantised x w) x)
      (subf (F := Ideal) (φ := .f32) (Vq.quantised x w) x) (ix4 b c p q) = square x w b c p q := by
  have hr : x (ix4 b c p q) = ((row x b (place p q) c : ℝ) : EReal) := by
    rw [hx (ix4 b c p q)]
    have h1 : (⟨(place p q).val / 64, by omega⟩ : Fin 64) = p := Fin.ext (by simp only [place]; omega)
    have h2 : (⟨(place p q).val % 64, by omega⟩ : Fin 64) = q := Fin.ext (by simp only [place]; omega)
    rw [row, h1, h2]
  show (Vq.quantised x w (ix4 b c p q) - x (ix4 b c p q)) * (Vq.quantised x w (ix4 b c p q) - x (ix4 b c p q)) = _
  rw [hr]
  exact diff_mul_diff _ _

omit hx hw in
/-- One picture's squared differences add up to its squared distances. -/
theorem sum_squares (b : Fin 8) : ∑ c : Fin 32, ∑ p : Fin 64, ∑ q : Fin 64, square x w b c p q
    = ∑ n : Fin 4096, (gap x w b n : EReal) := by
  rw [Finset.sum_comm]
  have h : ∀ p : Fin 64, ∑ c : Fin 32, ∑ q : Fin 64, square x w b c p q = ∑ q : Fin 64, (gap x w b (place p q) : EReal) :=
    fun p => by
      rw [Finset.sum_comm]
      exact Finset.sum_congr rfl fun q _ => sum_channels x w b (place p q)
  simp only [h]
  exact Fin.sum_mul_add_congr (S := 64) (n := 64) (L := 4096)
    (fun p q _ => congrArg (fun n => (gap x w b n : EReal)) (Fin.ext (congrArg (· + q.val) (Nat.mul_comm 64 p.val)))) (by decide)

/-- The loss. -/
theorem loss_finite : loss x (R.quantised x w) = fun _ => Vq.loss x w := by
  rw [quantised_finite x w hx hw]
  funext j
  have h : R.loss x (Vq.quantised x w) j = Ideal.div (Ideal.hostReduceAdd reducesTo_S8x32x64x64_S_d0_1_2_3
      (mulf (F := Ideal) (φ := .f32) (subf (F := Ideal) (φ := .f32) (Vq.quantised x w) x) (subf (F := Ideal) (φ := .f32) (Vq.quantised x w) x)) 0 j) (Ideal.ofBits .f32 0x49800000#32) := by
    pointwise [R.loss]
  rw [h, Ideal.hostReduceAdd_total _ (fun b => b.elim0), zero_add]
  refine congrArg (Ideal.div · _) ?_
  rw [sum_idx4]
  refine Finset.sum_congr rfl fun b _ => ?_
  have hp : ∀ (c : Fin 32) (p q : Fin 64), mulf (F := Ideal) (φ := .f32) (subf (F := Ideal) (φ := .f32) (Vq.quantised x w) x)
      (subf (F := Ideal) (φ := .f32) (Vq.quantised x w) x) (ix4 b c p q) = square x w b c p q := fun c p q =>
    square_apply x w hx b c p q
  simp only [hp]
  exact sum_squares x w b

end Cert.Proof.R

end
-- ==== Proof.Pre.lean ====
/-
  The precondition read back: where `finite` holds of the two arguments, every element of each is a real number.
-/
module

public import proofs.«01_k».proof.Defs
public import proofs.«01_k».proof.Proof.Gen.Pre_finite
public import proofs.«01_k».proof.Proof.Spec
public import proofs.«01_k».proof.Proof.Consts
public import Idealize.ShloMosaic.Lib.ReduceAll

@[expose] public section

noncomputable section

namespace Cert.Proof.Vq

open Idealize.ShloMosaic
open Cert.Pre_finite Cert.Pre_finite.Gen

/-- An extended real whose absolute value is below the literal infinity is a real. -/
theorem real_of_bit (a : EReal) (h : Ideal.cmp .olt (max a (-a)) (Ideal.ofBits .f32 0x7F800000#32) = 1#1) :
    a = (a.toReal : EReal) := by
  rw [inf_f32] at h
  have hlt : max a (-a) < ⊤ := by
    by_contra hn
    simp [Ideal.cmp, hn] at h
  refine (EReal.coe_toReal (ne_of_lt (lt_of_le_of_lt (le_max_left _ _) hlt)) fun hb => ?_).symm
  rw [hb] at hlt
  simp at hlt

/-- An array whose elements' bits are all one is an array of reals. -/
theorem finite_of_bits {s : Shape} (x : FVec Ideal s .f32)
    (h : ∀ i, Ideal.cmp .olt (max (x i) (-(x i))) (Ideal.ofBits .f32 0x7F800000#32) = 1#1) : Finite x :=
  fun i => real_of_bit (x i) (h i)

/-- The precondition makes both arguments arrays of reals. -/
theorem finite_of_pre (x : FVec Ideal Img .f32) (w : FVec Ideal Book .f32)
    (h : Cert.Pre_finite.fn (F := Ideal) x w = fun _ => 1#1) : Finite x ∧ Finite w := by
  have : Subsingleton Cert.Pre_finite.S_.Idx := ⟨fun a b => funext fun k => k.elim0⟩
  have h0 := congrFun h (fun k => k.elim0)
  obtain ⟨hx, hw⟩ := IntOp.andi_eq_one.mp h0
  exact ⟨finite_of_bits x fun i => Host.reduce_andi_all _ _ _ _ _ hx i,
    finite_of_bits w fun i => Host.reduce_andi_all _ _ _ _ _ hw i⟩

end Cert.Proof.Vq

end
-- ==== Proof.lean ====
/-
  The certificate: the fused nearest-code kernel terminates, leaves its arguments and semaphores as they were, and over
  the extended reals returns the reference's two results, the quantised image and the loss, on finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelRun
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem Idealize.ShloMosaic.StableHlo

/-- The reference terminates and leaves its arguments unchanged. -/
theorem reference_args (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run _ _ _).mono (fun r h => ⟨fun c => ⟨(h c _).trans (R.arg0_eq _), (h c _).trans (R.arg1_eq _)⟩,
    sem_eq_zero_of_no_sems (by decide) r.2⟩) (R.run_main m ρ)

/-- The reference ends with the quantised image and the loss of its arguments, where these are finite. -/
theorem reference_values (m : (ℓ : Loc Cert.ReferenceIdeal.nD Cert.ReferenceIdeal.τ Cert.ReferenceIdeal.sig) → Buf (Elt Ideal) ℓ)
    (ρ : Dev Cert.ReferenceIdeal.nD → PrngReg)
    (x : Dev Cert.ReferenceIdeal.nD → FVec Ideal Cert.ReferenceIdeal.S8x32x64x64 .f32)
    (w : Dev Cert.ReferenceIdeal.nD → FVec Ideal Cert.ReferenceIdeal.S1024x32 .f32)
    (ha : ∀ c : Dev Cert.ReferenceIdeal.nD,
      m ((c.tc : Thread Cert.ReferenceIdeal.nD Cert.ReferenceIdeal.τ).loc Cert.ReferenceIdeal.main_arg0) = x c
      ∧ m ((c.tc : Thread Cert.ReferenceIdeal.nD Cert.ReferenceIdeal.τ).loc Cert.ReferenceIdeal.main_arg1) = w c)
    (hx : ∀ c, Vq.Finite (x c)) (hw : ∀ c, Vq.Finite (w c)) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v27) = Vq.quantised (x c) (w c)
        ∧ r.2.mem ((c.tc : Thread Cert.ReferenceIdeal.nD Cert.ReferenceIdeal.τ).loc Cert.ReferenceIdeal.main_v25) = (fun _ => Vq.loss (x c) (w c))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run _ _ _).mono (fun r h c => by
    have h0 : launchContents m c (Proc.devRef (τ := Cert.ReferenceIdeal.τ) .tc Cert.ReferenceIdeal.main_arg0) = x c := (ha c).1
    have h1 : launchContents m c (Proc.devRef (τ := Cert.ReferenceIdeal.τ) .tc Cert.ReferenceIdeal.main_arg1) = w c := (ha c).2
    refine ⟨(h c _).trans ((R.out_eq _).trans ?_), (h c _).trans ((R.loss_eq _).trans ?_),
      (h c _).trans (R.arg0_eq _), (h c _).trans (R.arg1_eq _)⟩
    · rw [h0, h1]
      exact R.through_finite (x c) (w c) (hx c) (hw c)
    · rw [h0, h1]
      exact R.loss_finite (x c) (w c) (hx c) (hw c)) (R.run_main m ρ)

/-- Kernel and reference end with the same two results. -/
theorem same_results : Cert.algebraic_KernelIdeal_ReferenceIdeal_pre_finite := by
  intro m g m' g' hpre hagree
  have hf : ∀ c, Vq.Finite (K.img m c) ∧ Vq.Finite (K.book m c) := fun c => Vq.finite_of_pre _ _ (hpre c)
  exact ⟨fun c => Vq.quantised (K.img m c) (K.book m c), fun c _ => Vq.loss (K.img m c) (K.book m c),
    K.run m g (fun c => (hf c).1) (fun c => (hf c).2),
    reference_values m' g' (K.img m) (K.book m) hagree (fun c => (hf c).1) (fun c => (hf c).2)⟩

/-- The whole claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_args m ρ,
    fun m ρ _ => reference_args m ρ,
    trivial,
    same_results⟩

end Cert.Proof

end
